-- ==== Defs.lean ====
def Pre_Kernel [hPre_index_names_a_row : Cert.Pre_index_names_a_row.Facts] (m : (ℓ : Loc Cert.Kernel.nD Cert.Kernel.τ Cert.Kernel.sig) → Buf (Elt Bits) ℓ) : Prop :=
  ∀ c : Dev Cert.Kernel.nD,
    (Cert.Pre_index_names_a_row.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_index_names_a_row : Cert.Pre_index_names_a_row.Facts] (m : (ℓ : Loc Cert.KernelIdeal.nD Cert.KernelIdeal.τ Cert.KernelIdeal.sig) → Buf (Elt Ideal) ℓ) : Prop :=
  ∀ c : Dev Cert.KernelIdeal.nD,
    (Cert.Pre_index_names_a_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_names_a_row [hPre_index_names_a_row : Cert.Pre_index_names_a_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_names_a_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_index_names_a_row : Cert.Pre_index_names_a_row.Facts] (m : (ℓ : Loc Cert.Reference.nD Cert.Reference.τ Cert.Reference.sig) → Buf (Elt Bits) ℓ) : Prop :=
  ∀ c : Dev Cert.Reference.nD,
    (Cert.Pre_index_names_a_row.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_index_names_a_row : Cert.Pre_index_names_a_row.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_index_names_a_row : Cert.Pre_index_names_a_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_index_names_a_row [hReferenceIdeal : Cert.ReferenceIdeal.Facts] [hPre_index_names_a_row : Cert.Pre_index_names_a_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_names_a_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_index_names_a_row : Cert.Pre_index_names_a_row.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_names_a_row : Cert.Pre_index_names_a_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_index_names_a_row : Cert.Pre_index_names_a_row.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_index_names_a_row : Cert.Pre_index_names_a_row.Facts),
    quiescent_Kernel (hKernel := hKernel) (hPre_index_names_a_row := hPre_index_names_a_row)
    ∧ quiescent_KernelIdeal (hKernelIdeal := hKernelIdeal) (hPre_index_names_a_row := hPre_index_names_a_row)
    ∧ quiescent_ReferenceIdeal (hReferenceIdeal := hReferenceIdeal)
    ∧ quiescent_ReferenceIdeal_pre_index_names_a_row (hReferenceIdeal := hReferenceIdeal) (hPre_index_names_a_row := hPre_index_names_a_row)
    ∧ quiescent_Reference (hReference := hReference) (hPre_index_names_a_row := hPre_index_names_a_row)
    ∧ preserves_Kernel_KernelIdeal
    ∧ algebraic_KernelIdeal_ReferenceIdeal (hKernelIdeal := hKernelIdeal) (hReferenceIdeal := hReferenceIdeal) (hPre_index_names_a_row := hPre_index_names_a_row)
    ∧ bitexact_Kernel_Reference (hKernel := hKernel) (hReference := hReference) (hPre_index_names_a_row := hPre_index_names_a_row)
-- ==== Pre_index_names_a_row.lean ====
abbrev S1024x64x1024 : Shape := ⟨3, ![1024, 64, 1024]⟩
abbrev S_ : Shape := ⟨0, ![]⟩
abbrev S3x1024 : Shape := ⟨2, ![3, 1024]⟩

class Facts : Prop where

variable [Facts]

def fn {F : FTy → Type} [FloatOps F] (main_arg0 : FVec F S1024x64x1024 .f32) (main_arg1 : IVec S_ 32) (main_arg2 : FVec F S3x1024 .f32) : IVec S_ 1 :=
  let main_c : IVec S_ 32 := constantI S_ 32 0#32
  let main_v0 : IVec S_ 1 := cmpi .sge main_arg1 main_c
  let main_c_0 : IVec S_ 32 := constantI S_ 32 3#32
  let main_v1 : IVec S_ 1 := cmpi .slt main_arg1 main_c_0
  let main_v2 : IVec S_ 1 := andi main_v0 main_v1
  main_v2
-- ==== Kernel.lean ====
abbrev S1024x64x1024 : Shape := ⟨3, ![1024, 64, 1024]⟩
abbrev S_ : Shape := ⟨0, ![]⟩
abbrev S3x1024 : Shape := ⟨2, ![3, 1024]⟩
abbrev S65536x1024 : Shape := ⟨2, ![65536, 1024]⟩
abbrev S1 : Shape := ⟨1, ![1]⟩
abbrev S1x1024 : Shape := ⟨2, ![1, 1024]⟩
abbrev S2048x1024 : Shape := ⟨2, ![2048, 1024]⟩

abbrev nBuf : Table → Nat
  | .hbm => 8
  | .local .tc .vmem => 5
  | .local .scScalar .smem => 1
  | _ => 0

abbrev bufTy : (tb : Table) → Fin (nBuf tb) → BufTy
  | .hbm, ⟨0, _⟩ => ⟨S1024x64x1024, .f32⟩
  | .hbm, ⟨1, _⟩ => ⟨S_, .i32⟩
  | .hbm, ⟨2, _⟩ => ⟨S3x1024, .f32⟩
  | .hbm, ⟨3, _⟩ => ⟨S65536x1024, .f32⟩
  | .hbm, ⟨4, _⟩ => ⟨S1, .i32⟩
  | .hbm, ⟨5, _⟩ => ⟨S1x1024, .f32⟩
  | .hbm, ⟨6, _⟩ => ⟨S65536x1024, .f32⟩
  | .hbm, ⟨7, _⟩ => ⟨S1024x64x1024, .f32⟩
  | .local .tc .vmem, ⟨0, _⟩ => ⟨S2048x1024, .f32⟩
  | .local .tc .vmem, ⟨1, _⟩ => ⟨S2048x1024, .f32⟩
  | .local .tc .vmem, ⟨2, _⟩ => ⟨S1x1024, .f32⟩
  | .local .tc .vmem, ⟨3, _⟩ => ⟨S2048x1024, .f32⟩
  | .local .tc .vmem, ⟨4, _⟩ => ⟨S2048x1024, .f32⟩
  | .local .scScalar .smem, ⟨0, _⟩ => ⟨S1, .i32⟩
  | _, _ => ⟨S1024x64x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scs : Ref sig .scScalar := ⟨.hbm, 4, rfl⟩
abbrev main_arg2_scs : Ref sig .scScalar := ⟨.hbm, 2, rfl⟩
abbrev main_v2_scs : Ref sig .scScalar := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scScalar := ⟨.smem, 0, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v4 : BitVec 32) : Fin 2 → Nat :=
  let c0_i32_2_r1 : BitVec 32 := 0#32
  ![v4.toNat, 0]

def k0_chk1 (i : grid0.Coords) (v4 : BitVec 32) : Prop :=
  (∀ (k0_h1 : k0_cond1 i = 1#1), ∀ a, (k0_off1 v4) a + S1x1024.size a ≤ S3x1024.size a)
theorem k0_off1_inb : ∀ (i : grid0.Coords) (v4 : BitVec 32) (k0_hw1 : k0_chk1 i v4), ∀ (k0_h1 : k0_cond1 i = 1#1), ∀ a, (k0_off1 v4) a + S1x1024.size a ≤ S3x1024.size a := fun i v4 k0_hw1 k0_h1 => k0_hw1 k0_h1

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S1024x64x1024 : Shape := ⟨3, ![1024, 64, 1024]⟩
abbrev S_ : Shape := ⟨0, ![]⟩
abbrev S3x1024 : Shape := ⟨2, ![3, 1024]⟩
abbrev S1 : Shape := ⟨1, ![1]⟩
abbrev S1024 : Shape := ⟨1, ![1024]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1024x64x1024, .f32⟩
  | .hbm, ⟨1, _⟩ => ⟨S_, .i32⟩
  | .hbm, ⟨2, _⟩ => ⟨S3x1024, .f32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S1, .i1⟩
  | .hbm, ⟨14, _⟩ => ⟨S1, .i1⟩
  | .hbm, ⟨15, _⟩ => ⟨S_, .i1⟩
  | .hbm, ⟨16, _⟩ => ⟨S_, .i1⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1x1024, .f32⟩
  | .hbm, ⟨23, _⟩ => ⟨S1024x64x1024, .f32⟩
  | .hbm, ⟨24, _⟩ => ⟨S1024x64x1024, .f32⟩
  | _, _ => ⟨S1024x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_c_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_c_1 : Ref sig .tc := ⟨.hbm, 9, rfl⟩
abbrev main_call0_c_2 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c_3 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst : Ref sig .tc := ⟨.hbm, 19, rfl⟩
abbrev main_call0_v11 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩

abbrev nD : Nat := 1
abbrev τ : Topo := Topo.v7x

variable {F : FTy → Type} [FloatOps F]
-- ==== Proof.Setup.lean ====
/-
  What every later module shares: the launch's configuration, the resource algebra, the locations of the arrays, and the
  payloads of the SparseCore call.

  The kernel runs in two parts. SparseCore 0's scalar sequencer reads the index from the one-word array and copies the
  row it names into a one-row array; then the TensorCore's pipelined call adds that row to every row of `x`, 32 blocks of
  2048 rows. The algebra has one factor for the SparseCore call's handshake, one for the pipeline's staging cells, and one
  for the counters of the sequencer's two transfers.
-/
module

public import Idealize.ShloMosaic.Lib.SparseCore.Quiescent
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.RowAdd

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.Rounds

variable {F : FTy → Type}

/-! ## The launch's configuration -/

/-- The labels of the program the SparseCore call wraps: the kernels' own and the TensorCore pipeline's. -/
abbrev ΛP : Labels := Pipeline.Sig Λ₀ (Fin 1) fun p => (pcfgs (F := F) p).Adm
/-- The SparseCore call's configuration, as printed. -/
abbrev K : SparseCore.Cfg τ sig (ΛP (F := F)) 1 := sc (F := F)
/-- The bodies under the SparseCore call: the kernels' and the pipeline's. -/
abbrev D [FloatOps F] : Defs nD τ sig (Elt F) (ΛP (F := F)) := Pipeline.defs pcfgs defs₀
abbrev 𝒱₀ : Variants := Variants.none
abbrev 𝒱 : Variants := 𝒱₀.lift

/-- The launch's four semaphores are distinct where they must be and no kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshake's rounds. -/
abbrev UH : Type := URounds (GSem nD τ sig) ℕ
/-- The pipeline's rounds beside the transfers' counters. -/
abbrev UR' : Type := UR sig nD τ × Counters
/-- All three. -/
abbrev UU : Type := UH × UR'

/-- The machine's algebra with them. -/
abbrev M' (F : FTy → Type) : Type := MT nD τ sig (HIx 1) (Elt F) ℕ UU ℕ

/-- The handshake's factor in the machine's algebra. -/
abbrev EH : Emb UH (M' F) := embL
/-- The pipeline's factor in the machine's algebra. -/
def EP : Emb (UR sig nD τ) (M' F) := (Emb.inl : Emb (UR sig nD τ) UR').trans embR

instance EP_landsIn : (EP : Emb (UR sig nD τ) (M' F)).LandsIn (upEmb : UEmb _ (M' F)) := by
  unfold EP; infer_instance

/-! ## The arrays -/

/-- `x`, the index, the table, `x` as a matrix, the index as one word, the row, the sums, the result: where each lies. -/
abbrev lX (d : Dev nD) : Loc nD τ sig := (SparseCore.T d).loc main_arg0
abbrev lI (d : Dev nD) : Loc nD τ sig := (SparseCore.T d).loc main_arg1
abbrev lE (d : Dev nD) : Loc nD τ sig := (SparseCore.T d).loc main_arg2
abbrev lXm (d : Dev nD) : Loc nD τ sig := (SparseCore.T d).loc main_v0
abbrev lN (d : Dev nD) : Loc nD τ sig := (SparseCore.T d).loc main_v1
abbrev lR (d : Dev nD) : Loc nD τ sig := (SparseCore.T d).loc main_v2
abbrev lS (d : Dev nD) : Loc nD τ sig := (SparseCore.T d).loc main_v3
abbrev lO (d : Dev nD) : Loc nD τ sig := (SparseCore.T d).loc main_v4

/-- Row `n` of the table `e` (row `n % 3`, so that it is defined at every word), as a one-row array. -/
def row (e : S3x1024.Idx → Elt F .f32) (n : BitVec 32) : S1x1024.Idx → Elt F .f32 :=
  fun j => e fun | 0 => ⟨n.toNat % 3, Nat.mod_lt _ (by decide)⟩ | 1 => ⟨(j 1).val, (j 1).isLt⟩

variable (m : (ℓ : Loc nD τ sig) → Buf (Elt F) ℓ)

/-- The index the launch memory holds. -/
def word (d : Dev nD) : BitVec 32 := m (lI d) fun a => a.elim0

/-- What the one-word array holds once the index is reshaped into it: the index. -/
abbrev atN (d : Dev nD) : Buf (Elt F) (lN d) := fun _ => word m d
/-- What the row array holds after the SparseCore call: the row the index names. -/
abbrev atR (d : Dev nD) : Buf (Elt F) (lR d) := row (m (lE d)) (word m d)

/-! ## The SparseCore call's payloads -/

/-- The call hands sequencer 0 the index, the table and the row array, and has them back, the row array holding the row
    the index names. -/
def P : (K (F := F)).Pay (nD := nD) (Val := Elt F) (Name := ℕ) (U := UU) where
  st := fun _ d _ => iprop((lN d ↦{fullShare} atN m d) ∗ (lE d ↦{fullShare} m (lE d)) ∗ ∃ f, lR d ↦{fullShare} f)
  dn := fun _ d _ => iprop((lN d ↦{fullShare} atN m d) ∗ (lE d ↦{fullShare} m (lE d)) ∗ lR d ↦{fullShare} atR m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.RowAdd

end
-- ==== Proof.Lookup.lean ====
/-
  The sequencer's kernel: it copies the index into its own scalar memory, reads it, and copies the row of the table the
  index names into the row array.
-/
module

public import Idealize.ShloMosaic.Lib.Pipeline.ValueKit
public import proofs.«01_k».proof.Proof.Setup

@[expose] public section

noncomputable section

namespace Cert.Proof.RowAdd

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => M' F

/-! ## The kernel's operands, as the body table passes them -/

/-- The one-word array of the index, whole, as the sequencer addresses it. -/
abbrev nW : Memref sig .scScalar .hbm S1 .i32 := Memref.whole main_v1_scs
/-- The table, whole, as the sequencer addresses it. -/
abbrev eW : Memref sig .scScalar .hbm S3x1024 .f32 := Memref.whole main_arg2_scs
/-- The row array, whole, as the sequencer addresses it. -/
abbrev rW : Memref sig .scScalar .hbm S1x1024 .f32 := Memref.whole main_v2_scs
/-- The sequencer's word of scalar memory. -/
abbrev sW : Memref sig .scScalar .smem S1 .i32 := Memref.whole cc0_scratch0

/-- The kernel's coordinates on sequencer `c`. -/
def coords (c : Fin (grid0.bound 0)) : grid0.Coords := fun | 0 => c | ⟨_ + 1, h⟩ => absurd h (Nat.not_lt.2 (Nat.le_add_left _ _))

/-- Sequencer 0's thread on device `d`. -/
abbrev S0 (d : Dev nD) (h : 0 < grid0.bound 0) : Thread nD τ := S d ((⟨0, h⟩ : Fin (grid0.bound 0)).castLE hcore0)

variable (d : Dev nD)

/-- The sequencer's scalar memory: one word. -/
abbrev lW (c : Fin τ.nSC) : Loc nD τ sig := (S d c).loc cc0_scratch0

/-- The kernel's one branch is taken on sequencer 0. -/
theorem cond_zero : ∀ h : 0 < grid0.bound 0, k0_cond1 (coords ⟨0, h⟩) = 1#1 := by decide +kernel

/-- An index below 3 names a row of the table: the check the kernel makes of the word it reads. -/
theorem chk_of_lt (i : grid0.Coords) (n : BitVec 32) (hn : n.toNat < 3) : k0_chk1 i n := by
  intro _ a
  fin_cases a
  · show n.toNat + 1 ≤ 3
    omega
  · show 0 + 1024 ≤ 1024
    omega

/-- The sequencer's kernel, from an index below 3 in the one-word array: it leaves the index and the table as they are and
    the row array holding the row the index names, both its transfers' counters back at zero. -/
theorem lookup_run (h : 0 < grid0.bound 0) (O : CellTallies nD τ sig (HIx 1)) (W : Waits sig (HIx 1)) (n : BitVec 32) (hn : n.toNat < 3)
    (e : Buf (Elt F) (lE d)) (f : Buf (Elt F) (lR d)) (s : Buf (Elt F) ((sW).view.loc (S0 d h))) :
    (iprop(Transfers.MayWaits (S0 d h) (none : HIx 1) O
        ∗ ((nW).view.loc (S0 d h) ↦{fullShare} (fun _ => n : Buf (Elt F) (lN d)))
        ∗ ((eW).view.loc (S0 d h) ↦{fullShare} e)
        ∗ ((rW).view.loc (S0 d h) ↦{fullShare} f)
        ∗ ((sW).view.loc (S0 d h) ↦{fullShare} s)
        ∗ semVal (S0 d h, SemLoc.dma cc0_scoped0.sem) 0 ∗ semVal (S0 d h, SemLoc.dma cc0_scoped1.sem) 0
        ∗ owes (S0 d h) O W) : sProp 𝕄)
      ⊢ wp frame (wpE (defs₀ (F := F)) 𝒱₀ (S0 d h) none) Set.univ
          (cc0__sc_lookup_body (coords ⟨0, h⟩) nW (Memref.isWhole_whole _) eW (Memref.isWhole_whole _) rW (Memref.isWhole_whole _)
            sW (Memref.isWhole_whole _) cc0_scoped0 cc0_scoped1)
          fun _ => iprop(((nW).view.loc (S0 d h) ↦{fullShare} (fun _ => n : Buf (Elt F) (lN d)))
            ∗ ((eW).view.loc (S0 d h) ↦{fullShare} e)
            ∗ ((rW).view.loc (S0 d h) ↦{fullShare} (row e n : Buf (Elt F) (lR d)))
            ∗ (∃ s, (sW).view.loc (S0 d h) ↦{fullShare} s)
            ∗ semVal (S0 d h, SemLoc.dma cc0_scoped0.sem) 0 ∗ semVal (S0 d h, SemLoc.dma cc0_scoped1.sem) 0
            ∗ ∃ W', owes (S0 d h) O W') := by
  have hc : k0_cond1 (coords ⟨0, h⟩) = 1#1 := cond_zero h
  have hk : k0_chk1 (coords ⟨0, h⟩) n := chk_of_lt _ n hn
  delta nW eW rW sW
  iintro ⟨#Hmw, Hn, He, Hr, Hs, H0, H1, HO⟩
  sl_unfold [cc0__sc_lookup_body]
  sl_exec
  have hw : View.write (Elt F) (rW).view f (lookup_run.sl.dma1 d h n e s hc hk) Finset.univ = (row e n : Buf (Elt F) (lR d)) := by
    refine (View.write_whole_univ _ _ _).trans (funext fun j => ?_)
    delta lookup_run.sl.dma1
    beta_reduce
    refine congrArg e (funext fun a => Fin.ext ?_)
    have hj : (j 0).val = 0 := Nat.lt_one_iff.mp (j 0).isLt
    refine (ValueKit.view_emb_slice_whole_unit_val main_arg2_scs _ _ _ j a).trans ?_
    match a with
    | 0 =>
      show n.toNat + (j 0).val = n.toNat % 3
      omega
    | 1 =>
      show 0 + (j 1).val = (j 1).val
      omega
  delta rW at hw
  sl_step
  rw [hw]
  isplitl [Hn]; · iexact Hn
  isplitl [He]; · iexact He
  isplitl [Hr]; · iexact Hr
  isplitl [Hs]; · iexists _; iexact Hs
  isplitl [H0]; · iexact H0
  isplitl [H1]; · iexact H1
  iexists _; iexact HO

/-! ## In the launch's shape -/

/-- Both transfers' counters are the sequencer's own. -/
theorem own0 (c : Fin τ.nSC) : ((S d c, SemLoc.dma cc0_scoped0.sem) : GSem nD τ sig) ∈ ownCells (S d c) :=
  mem_ownCells.mpr ⟨rfl, show (SemLoc.dma cc0_scoped0.sem : SemLoc sig).isScoped .scScalar = true by decide⟩
theorem own1 (c : Fin τ.nSC) : ((S d c, SemLoc.dma cc0_scoped1.sem) : GSem nD τ sig) ∈ ownCells (S d c) :=
  mem_ownCells.mpr ⟨rfl, show (SemLoc.dma cc0_scoped1.sem : SemLoc sig).isScoped .scScalar = true by decide⟩

/-- The sequencer's own counters at zero: the two its transfers use, and the rest. -/
theorem ownSems0_S (c : Fin τ.nSC) :
    (ownSems0 (S d c) : sProp 𝕄)
      = iprop((semVal (S d c, SemLoc.dma cc0_scoped0.sem) 0 ∗ semVal (S d c, SemLoc.dma cc0_scoped1.sem) 0)
          ∗ bigSep (((ownCells (S d c)).erase (S d c, SemLoc.dma cc0_scoped0.sem)).erase (S d c, SemLoc.dma cc0_scoped1.sem)) fun g => semVal g 0) := by
  unfold SparseCore.Cfg.ownSems0
  rw [SparseCore.bigSep_erase' (own0 d c),
    SparseCore.bigSep_erase' (Finset.mem_erase.mpr ⟨fun h => absurd (congrArg Prod.snd h) (show (SemLoc.dma cc0_scoped1.sem : SemLoc sig) ≠ .dma cc0_scoped0.sem by decide),
      own1 d c⟩)]
  exact BI.sep_assoc'.antisymm BI.sep_assoc

/-- The sequencer's own memory: its one word, at some value, and the rest. -/
theorem ownBufs_S (c : Fin τ.nSC) :
    (ownBufs (S d c) : sProp 𝕄)
      = iprop((∃ f, lW d c ↦{fullShare} f)
          ∗ bigSep ((ownRefs (τ := τ) (.scScalar c)).erase ((Proc.scScalar c).devRef cc0_scratch0)) fun b => iprop(∃ f, ((d, b) : Loc nD τ sig) ↦{fullShare} f)) :=
  SparseCore.bigSep_erase' ((mem_ownRefs (p := Proc.scScalar c) (b := (Proc.scScalar c).devRef cc0_scratch0)).mpr rfl)

variable (m : (ℓ : Loc nD τ sig) → Buf (Elt F) ℓ)

/-- The sequencer's thread at the call: from the payload it is handed, its own memory and its counters at zero, it runs
    `lookup_run` and hands all of them back, the payload with the row in place. -/
theorem lookup_body (hn : (word m d).toNat < 3) (h : 0 < grid0.bound 0) (O : CellTallies nD τ sig (HIx 1)) (W : Waits sig (HIx 1))
    (hO : ∀ g, O g none = 0) :
    iprop(levAts (K (F := F)).L (K (F := F)).lev ∗ emp
        ∗ ((lN d ↦{fullShare} atN m d) ∗ (lE d ↦{fullShare} m (lE d)) ∗ ∃ f, lR d ↦{fullShare} f)
        ∗ scopedBufs (S0 d h) ∗ scopedSems0 (S0 d h) ∗ owes (S0 d h) O W)
      ⊢ (wp frame (wpE (defs₀ (F := F)) 𝒱₀ (S0 d h) none) Set.univ
          (cc0__sc_lookup_body (coords ⟨0, h⟩) nW (Memref.isWhole_whole _) eW (Memref.isWhole_whole _) rW (Memref.isWhole_whole _)
            sW (Memref.isWhole_whole _) cc0_scoped0 cc0_scoped1)
          fun _ => iprop(((lN d ↦{fullShare} atN m d) ∗ (lE d ↦{fullShare} m (lE d)) ∗ lR d ↦{fullShare} atR m d)
            ∗ scopedBufs (S0 d h) ∗ scopedSems0 (S0 d h)
            ∗ ∃ W', ⌜∀ p ∈ W', p ∈ W ∨ p.2 = none ∨ p.2 = some (0 : Fin 1)⌝ ∗ owes (S0 d h) O W') : sProp 𝕄) := by
  rw [(K (F := F)).scopedBufs_S facts d _, SparseCore.Cfg.scopedSems0_S (Val := Elt F) d _, ownSems0_S, ownBufs_S]
  iintro ⟨#Hlv, -, ⟨Hn, He, %f, Hr⟩, ⟨⟨⟨%s, Hs⟩, Hbufs⟩, Htiles⟩, ⟨⟨⟨H0, H1⟩, Hsems⟩, HtileSems⟩, HO⟩
  ihave Hmw := ((K (F := F)).mayWaits_none (thr := S0 d h) hO) $$ Hlv
  iapply (wp_wand_r Idealize.ShloMosaic.frame (wpE (defs₀ (F := F)) 𝒱₀ (S0 d h) none) Set.univ)
  isplitl [Hn He Hr Hs H0 H1 HO]
  · iapply (lookup_run d h O W (word m d) hn (m (lE d)) f s)
    simp only [Memref.view_whole, View.set_whole]
    isplitr; · iexact Hmw
    isplitl [Hn]; · iexact Hn
    isplitl [He]; · iexact He
    isplitl [Hr]; · iexact Hr
    isplitl [Hs]; · iexact Hs
    isplitl [H0]; · iexact H0
    isplitl [H1]; · iexact H1
    iexact HO
  simp only [Memref.view_whole, View.set_whole]
  iintro %_ ⟨Hn, He, Hr, ⟨%s', Hs⟩, H0, H1, %W', HO⟩
  isplitl [Hn He Hr]
  · isplitl [Hn]; · iexact Hn
    isplitl [He]; · iexact He
    iexact Hr
  isplitl [Hs Hbufs Htiles]
  · isplitl [Hs Hbufs]
    · isplitl [Hs]; · iexists _; iexact Hs
      iexact Hbufs
    iexact Htiles
  isplitl [H0 H1 Hsems HtileSems]
  · isplitl [H0 H1 Hsems]
    · isplitl [H0 H1]
      · isplitl [H0]; · iexact H0
        iexact H1
      iexact Hsems
    iexact HtileSems
  iexists W'
  isplitr
  · ipureintro
    intro p _
    rcases p.2 with _ | q
    · exact .inr (.inl rfl)
    · exact .inr (.inr (congrArg some (Subsingleton.elim q 0)))
  iexact HO

/-- The sequencers' entry in the table of bodies is the kernel at the arrays @main names. -/
theorem defs_seq (c : Fin τ.nSC) :
    defs₀ (F := F) (.scScalar c) 0 ()
      = SparseCore.onCore hcore0 (fun c => cc0__sc_lookup_body (coords c) nW (Memref.isWhole_whole _) eW (Memref.isWhole_whole _)
          rW (Memref.isWhole_whole _) sW (Memref.isWhole_whole _) cc0_scoped0 cc0_scoped1) ⟨⟩ c := rfl

/-- What the launch asks of the SparseCore call: its sequencer's body meets the payloads. -/
theorem scalarObl (hn : ∀ d, (word m d).toNat < 3) : (K (F := F)).ScalarObl (D (F := F)) 𝒱 (P m) (Sum.inl none) 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs_seq]
  simp only [SparseCore.onCore, hc, ↓reduceDIte]
  match c with
  | ⟨0, h⟩ => exact lookup_body d m (hn d) h O W hO

end Cert.Proof.RowAdd

end
-- ==== Proof.Add.lean ====
/-
  The TensorCore's kernel at one grid point: it leaves in the result's block the sum of `x`'s block and the row, the row
  added to each of the block's 2048 rows.
-/
module

public import proofs.«01_k».proof.Proof.Setup
public import Idealize.ShloMosaic.Lib.Pipeline.ValueKit

@[expose] public section

noncomputable section

namespace Cert.Proof.RowAdd

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => M' F

/-- The kernel on three memrefs, each all of its buffer: the first two as they were, the third the payload of their
    contents, whatever it held; then whatever follows from those. -/
theorem add_run (c : Dev nD) (i : grid1.Coords)
    (a : Memref sig .tc .vmem S2048x1024 .f32) (ha : a.IsWhole) (b : Memref sig .tc .vmem S1x1024 .f32) (hb : b.IsWhole)
    (o : Memref sig .tc .vmem S2048x1024 .f32) (ho : o.IsWhole)
    (X : Vec F S2048x1024 .f32) (Y : Vec F S1x1024 .f32) (Z : Vec F S2048x1024 .f32)
    (Q : PUnit → sProp 𝕄) :
    iprop(owns c.tc a fullShare X ∗ owns c.tc b fullShare Y ∗ owns c.tc o fullShare Z
        ∗ (iprop(owns c.tc a fullShare X ∗ owns c.tc b fullShare Y ∗ owns c.tc o fullShare (k1_pay1 X Y)) -∗ Q ⟨⟩))
      ⊢ wp frame (wpE (defs₀ (F := F)) 𝒱₀ c.tc none) Set.univ (cc1__tc_add_body i a ha b hb o ho) Q := by
  rw [cc1__tc_add_body_eq_skeleton]
  unfold owns
  iintro ⟨⟨%fa, %hfa, Ha⟩, ⟨%fb, %hfb, Hb⟩, ⟨%fo, %hfo, Ho⟩, Hk⟩
  sl_unfold [cc1__tc_add_body_skel]
  sl_exec
  sl_step
  iapply Hk
  isplitl [Ha]; · iexists fa; isplitr; · ipureintro; exact hfa
                  iexact Ha
  isplitl [Hb]; · iexists fb; isplitr; · ipureintro; exact hfb
                  iexact Hb
  iexists _
  isplitr
  swap
  · iexact Ho
  ipureintro
  refine (View.read_writes_eq_canon _ _ _ fun y => ?_).trans ?_
  · exact ⟨_, .head _, View.mem_set_unit_zero (View.eq_zero_of_forall (by decide)) inb_S2048x1024_S2048x1024_0_0 y⟩
  rw [View.canon_cons_unit_lit _ _ _ (by decide), View.readAt_eq_ld, View.readAt_eq_ld, View.ld_unit_lit _ _ (by decide),
    View.ld_unit_lit _ _ (by decide), hfa, hfb]

end Cert.Proof.RowAdd

end
-- ==== Proof.Region.lean ====
/-
  The TensorCore's pipelined call: 32 grid points, point `t` on rows `2048 t` to `2048 t + 2047` of the matrix. The proof
  data of the pipeline, the body's obligation at every point, what the sums' array holds at the end, and the call as one
  region of @main.
-/
module

public import proofs.«01_k».proof.Proof.Add
public import Idealize.ShloMosaic.Lib.Pipeline.RegionArrays

@[expose] public section

set_option maxRecDepth 16384

noncomputable section

namespace Cert.Proof.RowAdd

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => M' F

/-- The matrix `x` with the one-row array `r` added to each of its rows. -/
def sums (x : S65536x1024.Idx → Elt F .f32) (r : S1x1024.Idx → Elt F .f32) : S65536x1024.Idx → Elt F .f32 :=
  fun i => FloatOps.addf (φ := .f32) (x i) (r fun | 0 => ⟨0, Nat.one_pos⟩ | 1 => ⟨(i 1).val, (i 1).isLt⟩)

/-! ## The pipeline's proof data -/

-- `V`: what each of the TensorCore's arrays holds when the call is entered; `w`: a bound on the levels of the waits so far
variable (V : (d : Dev nD) → (b : Ref sig .tc) → Buf (Elt F) ((d.tc : Thread nD τ).loc b)) (w : ℕ)

/-- `x`'s block at point `t`, and the row, as the pipeline stages them. -/
abbrev blkX (d : Dev nD) (t : Fin cfg1.N) : Vec F S2048x1024 .f32 := (win1_0.blk t).view.read (Elt F) (V d main_v0)
abbrev blkR (d : Dev nD) (t : Fin cfg1.N) : Vec F S1x1024 .f32 := (win1_1.blk t).view.read (Elt F) (V d main_v2)

/-- The proof data: the arrays as they are at entry; after the body the two inputs' blocks as they were and the result's
    the payload of them; nothing held between the points; nothing owed; the waits recorded at levels at most `w`. -/
def dats (_ : Fin 1) (d : Dev nD) : Dat τ (Elt F) (HIx 1) ℕ UU ℕ cfg1 d where
  A j := V d (Pipeline.arrRef spec1 j)
  after j t := match j with
    | ⟨0, _⟩ => blkX V d t
    | ⟨1, _⟩ => blkR V d t
    | ⟨2, _⟩ => k1_pay1 (blkX V d t) (blkR V d t)
  Φ _ := iprop(emp)
  q _ := fullShare
  owed _ := 0
  recorded _ := {p | (K (F := F)).lev ((d.tc : Thread nD τ), p.1) p.2 ≤ w}

/-- What the body finds in `x`'s buffer and in the row's: their blocks. -/
theorem before_x (d : Dev nD) (t : Fin cfg1.N) (e) : (dats V w 0 d).before 0 t e = blkX V d t := by
  unfold Dat.before
  rw [if_pos (fetch1_0 t)]
  rfl
theorem before_r (d : Dev nD) (t : Fin cfg1.N) (e) : (dats V w 0 d).before 1 t e = blkR V d t :=
  ((dats V w 0 d).before_in_eq_fetched 1 rfl (fun _ => rfl) (fun _ _ _ => rfl) (fun _ => rfl) t e).trans rfl

/-- The body at every point, from what the pipeline hands it to what the proof data say it leaves. -/
theorem body (d : Dev nD) : BodyObligation (dats V w 0 d) (defs₀ (F := F)) 𝒱₀ (none : HIx 1) Set.univ := fun t => by
  rw [bigSep_W1, bigSep_W1]
  simp only [before_x, before_r]
  change _ ⊢ wp _ _ _ (bodyAt1 t) _
  iintro ⟨-, HO, ⟨%_, Hx⟩, ⟨%_, Hr⟩, ⟨%e, Ho⟩⟩
  iapply (add_run d (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (blkX V d t) (blkR V d t) _ _)
  isplitl [Hx]; · iexact Hx
  isplitl [Hr]; · iexact Hr
  isplitl [Ho]; · iexact Ho
  iintro ⟨Hx, Hr, Ho⟩
  isplitr; · iempintro
  isplitl [HO]; · iexact HO
  isplitl [Hx]; · iexact Hx
  isplitl [Hr]; · iexact Hr
  iexact Ho

/-! ## What the sums' array holds at the end -/

/-- Point `t`'s payload at an element: `x`'s element there plus the row's in its column. -/
theorem pay_apply (X : Vec F S2048x1024 .f32) (Y : Vec F S1x1024 .f32) (y : S2048x1024.Idx) :
    k1_pay1 X Y y = FloatOps.addf (φ := .f32) (X y) (Y fun | 0 => ⟨0, Nat.one_pos⟩ | 1 => ⟨(y 1).val, (y 1).isLt⟩) := by
  unfold k1_pay1
  simp only [addf, broadcastTo, shapeCast, Shape.reshapeEquiv_self]
  refine congrArg (fun j => FloatOps.addf (φ := .f32) (X y) (Y j)) (funext fun a => Fin.ext ?_)
  match a with
  | 0 => rfl
  | 1 => rfl

/-- Where each window's block lies: point `t`'s block of `x` and of the sums are the same rows, the row's is the row. -/
theorem at_x : ∀ t : Fin grid1.N, win1_0.index t = ![t.val, 0] := by decide +kernel
theorem at_r : ∀ t : Fin grid1.N, win1_1.index t = ![0, 0] := by decide +kernel
theorem at_s : ∀ t : Fin grid1.N, win1_2.index t = ![t.val, 0] := by decide +kernel

/-- After the last point the sums' array holds the matrix with the row added to each of its rows. -/
theorem final_sums (d : Dev nD) : (dats V w 0 d).arrAt 2 cfg1.N = sums (V d main_v0) (V d main_v2) := by
  refine (dats V w 0 d).arrAt_eq_of_covers 2 _ (by decide +kernel) fun t hf y => ?_
  blk_simp
  refine (pay_apply (blkX V d t) (blkR V d t) y).trans ?_
  unfold sums
  refine congrArg₂ (FloatOps.addf (φ := .f32)) (congrArg (V d main_v0) ?_) (congrArg (V d main_v2) ?_)
  · blk_ext [at_x, at_s]
  · blk_ext [at_r, at_s]

/-! ## The call as a region of @main -/

/-- The pipeline prefetches no table. -/
abbrev adm : (p : Fin 1) → (pcfgs (F := F) p).Adm := fun p => (cfgs p).toPCfg_adm

/-- The TensorCore's `owes` with nothing owed, its waits so far at levels at most `w`. -/
abbrev idle (d : Dev nD) : sProp 𝕄 :=
  iprop(∃ W, ⌜(K (F := F)).WBelow (d.tc : Thread nD τ) W w⌝ ∗ owes (d.tc : Thread nD τ) (0 : CellTallies nD τ sig (HIx 1)) W)

/-- What @main holds of its arrays after the call: the sums in place, the rest as at entry. -/
abbrev after (d : Dev nD) : sProp 𝕄 :=
  iprop((lXm d ↦{fullShare} V d main_v0) ∗ (lR d ↦{fullShare} V d main_v2) ∗ (lS d ↦{fullShare} sums (V d main_v0) (V d main_v2))
    ∗ (lX d ↦{fullShare} V d main_arg0) ∗ (lI d ↦{fullShare} V d main_arg1) ∗ (lE d ↦{fullShare} V d main_arg2)
    ∗ (lN d ↦{fullShare} V d main_v1) ∗ lO d ↦{fullShare} V d main_v4)

/-- The arrays the pipeline moves, at the end, are the matrix and the row as at entry and the sums. -/
theorem arrays_end (d : Dev nD) :
    ((dats V w 0 d).arrays ((dats V w 0 d).arrAt · cfg1.N) : sProp 𝕄)
      = iprop((lXm d ↦{fullShare} V d main_v0) ∗ (lR d ↦{fullShare} V d main_v2) ∗ lS d ↦{fullShare} sums (V d main_v0) (V d main_v2)) := by
  rw [Pipeline.arrays_eq cfgs (dats V w) 0 d launch1.arr_whole ((dats V w 0 d).share_full fun _ => rfl), bigSep_W1, final_sums,
    (dats V w 0 d).arrAt_in 0 rfl, (dats V w 0 d).arrAt_in 1 rfl]
  rfl

set_option backward.isDefEq.respectTransparency.types false in
/-- The call: entered with all of the TensorCore's arrays, left with the sums in place. -/
def reg : Pipeline.RegionSeg (pcfgs (F := F)) adm (dats V w) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body V w d).loose
  hwaits := Pipeline.hwaits_of_owed_zero _ _ _ _ (K (F := F)).L (K (F := F)).lev 0 fun _ _ => rfl
  pre d := iprop(unscopedBufs d (V d) ∗ idle w d)
  post d := iprop(after V d ∗ idle w d)
  X _ := iprop(emp)
  Y _ := iprop(emp)
  Z d := Pipeline.unscopedRest spec1 d (V d)
  hentry d := by
    have hsplit := Pipeline.arrays_of_unscopedBufs (pcfgs (F := F)) adm (dats V w) launch1.win launch1.arr_whole d
      ((dats V w 0 d).share_full fun _ => rfl) (V d) fun _ => rfl
    iintro ⟨⟨Hb, %W, %hW, HO⟩, -, -⟩
    ihave H := hsplit $$ Hb
    icases H with ⟨Ha, Hz⟩
    imodintro
    isplitl [Ha]; · iexact Ha
    isplitr; · rw [Pipeline.prefHeld_of_none _ rfl]; iempintro
    isplitl [HO]
    · unfold Pipeline.Dat.owesAt Pipeline.owesWithin
      iexists W
      isplitr; · ipureintro; exact fun p hp => Or.inl (hW p hp)
      iexact HO
    isplitr; · iempintro
    iexact Hz
  hin d := by
    iintro ⟨-, -, -⟩
    iempintro
  hout d := by
    rw [Pipeline.ownSems0_none, scopedRest1_eq]
    iintro -
    isplitr; · iempintro
    isplitr; · iempintro
    iempintro
  hexit d := by
    rw [arrays_end, unscopedRest1_eq]
    iintro ⟨⟨Hx, Hr, Hs⟩, HO, -, ⟨H0, H1, H2, H3, H4⟩⟩
    imodintro
    isplitl [Hx Hr Hs H0 H1 H2 H3 H4]
    · isplitl [Hx]; · iexact Hx
      isplitl [Hr]; · iexact Hr
      isplitl [Hs]; · iexact Hs
      isplitl [H0]; · iexact H0
      isplitl [H1]; · iexact H1
      isplitl [H2]; · iexact H2
      isplitl [H3]; · iexact H3
      iexact H4
    unfold Pipeline.Dat.owesAt Pipeline.owesWithin
    icases HO with ⟨%W, %hW, HO⟩
    iexists W
    isplitr
    · ipureintro
      intro p hp
      rcases hW hp with h | h
      · exact h
      · obtain ⟨j, s, rfl⟩ := h
        exact Nat.zero_le _
    iexact HO

end Cert.Proof.RowAdd

end
-- ==== Proof.Main.lean ====
/-
  @main on a device's TensorCore: the two reshapes, the SparseCore call, the pipelined call, the reshape of the sums.
-/
module

public import proofs.«01_k».proof.Proof.Lookup
public import proofs.«01_k».proof.Proof.Region

@[expose] public section

set_option maxRecDepth 16384

noncomputable section

namespace Cert.Proof.RowAdd

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => M' F

/-! ## The arrays, all eight -/

/-- A TensorCore array as the device's buffer. -/
abbrev dv (b : Ref sig .tc) : DevRef τ sig := Proc.devRef .tc b

/-- All of @main's arrays. -/
abbrev S8 : Finset (DevRef τ sig) :=
  {dv main_arg0, dv main_arg1, dv main_arg2, dv main_v0, dv main_v1, dv main_v2, dv main_v3, dv main_v4}

/-- The arrays one by one, each at the value named. -/
abbrev eight (d : Dev nD) (x : Buf (Elt F) (lX d)) (i : Buf (Elt F) (lI d)) (e : Buf (Elt F) (lE d)) (xm : Buf (Elt F) (lXm d))
    (n : Buf (Elt F) (lN d)) (r : Buf (Elt F) (lR d)) (s : Buf (Elt F) (lS d)) (o : Buf (Elt F) (lO d)) : sProp 𝕄 :=
  iprop((lX d ↦{fullShare} x) ∗ (lI d ↦{fullShare} i) ∗ (lE d ↦{fullShare} e) ∗ (lXm d ↦{fullShare} xm)
    ∗ (lN d ↦{fullShare} n) ∗ (lR d ↦{fullShare} r) ∗ (lS d ↦{fullShare} s) ∗ lO d ↦{fullShare} o)

omit [FloatOps F] in
theorem eight_congr (d : Dev nD) {x x' : Buf (Elt F) (lX d)} {i i' : Buf (Elt F) (lI d)} {e e' : Buf (Elt F) (lE d)}
    {xm xm' : Buf (Elt F) (lXm d)} {n n' : Buf (Elt F) (lN d)} {r r' : Buf (Elt F) (lR d)} {s s' : Buf (Elt F) (lS d)}
    {o o' : Buf (Elt F) (lO d)} (hx : x = x') (hi : i = i') (he : e = e') (hxm : xm = xm') (hn : n = n') (hr : r = r')
    (hs : s = s') (ho : o = o') : (eight d x i e xm n r s o : sProp 𝕄) = eight d x' i' e' xm' n' r' s' o' := by
  subst hx hi he hxm hn hr hs ho; rfl

/-- The arrays held at a valuation, one by one. -/
abbrev each (d : Dev nD) (W : (b : Ref sig .tc) → Buf (Elt F) ((d.tc : Thread nD τ).loc b)) : sProp 𝕄 :=
  eight d (W main_arg0) (W main_arg1) (W main_arg2) (W main_v0) (W main_v1) (W main_v2) (W main_v3) (W main_v4)

omit [FloatOps F] in
theorem held_each (d : Dev nD) (W : Valuation τ sig (Elt F)) : (held (T d) S8 W : sProp 𝕄) = each d fun b => W (dv b) := by
  unfold held S8
  repeat rw [SparseCore.bigSep_insert' (by decide)]
  rw [bigSep_singleton]

omit [FloatOps F] in
theorem unscoped_each (d : Dev nD) (W : (b : Ref sig .tc) → Buf (Elt F) ((d.tc : Thread nD τ).loc b)) :
    (unscopedBufs d W : sProp 𝕄) = each d W := by
  unfold unscopedBufs
  rw [show (Finset.univ.filter fun b : Ref sig .tc => ¬ b.isScoped)
    = {main_arg0, main_arg1, main_arg2, main_v0, main_v1, main_v2, main_v3, main_v4} by decide]
  repeat rw [SparseCore.bigSep_insert' (by decide)]
  rw [bigSep_singleton]

/-! ## What they hold along the way -/

abbrev opX : HloOp τ sig (Elt F) := StableHlo.reshape main_arg0 main_v0 (rfl : (.f32 : EltTy) = .f32) shapeCasts_S1024x64x1024_S65536x1024
abbrev opN : HloOp τ sig (Elt F) := StableHlo.reshape main_arg1 main_v1 (rfl : (.i32 : EltTy) = .i32) shapeCasts_S_S1
abbrev opO : HloOp τ sig (Elt F) := StableHlo.reshape main_v3 main_v4 (rfl : (.f32 : EltTy) = .f32) shapeCasts_S65536x1024_S1024x64x1024

variable (m : (ℓ : Loc nD τ sig) → Buf (Elt F) ℓ) (ρ : Dev nD → PrngReg)

/-- At launch; after the two reshapes; after the SparseCore call, the row in place. -/
def V0 (d : Dev nD) : Valuation τ sig (Elt F) := fun b => m (d, b)
def V2 (d : Dev nD) : Valuation τ sig (Elt F) := (opN (F := F)).result ((opX (F := F)).result (V0 m d))
def V3 (d : Dev nD) : Valuation τ sig (Elt F) := Function.update (V2 m d) (dv main_v2) (atR m d)
/-- After the pipelined call, the sums in place; after the last reshape. -/
def V4 (d : Dev nD) : Valuation τ sig (Elt F) := Function.update (V3 m d) (dv main_v3) (sums (V3 m d (dv main_v0)) (V3 m d (dv main_v2)))
def V5 (d : Dev nD) : Valuation τ sig (Elt F) := (opO (F := F)).result (V4 m d)

/-- The result: `x` as a matrix, the row added to each of its rows, back in `x`'s shape. -/
def out (d : Dev nD) : Buf (Elt F) (lO d) :=
  shapeCast S1024x64x1024 (sums (shapeCast S65536x1024 (m (lX d)) shapeCasts_S1024x64x1024_S65536x1024) (atR m d))
    shapeCasts_S65536x1024_S1024x64x1024

/-- The reshapes write the matrix and the one word, and nothing else. -/
theorem V2_of_ne (d : Dev nD) (b : Ref sig .tc) (h0 : b ≠ main_v0) (h1 : b ≠ main_v1) : V2 m d (dv b) = m (d, dv b) := by
  unfold V2
  rw [StableHlo.reshape_result_ne (h := h1), StableHlo.reshape_result_ne (h := h0)]
  rfl

theorem V2_n (d : Dev nD) : V2 m d (dv main_v1) = atN m d := by
  unfold V2
  rw [StableHlo.reshape_result, StableHlo.reshape_result_ne (h := show main_arg1 ≠ main_v0 by decide)]
  funext i
  exact congrArg (m (lI d)) (funext fun a => a.elim0)

theorem V3_of_ne (d : Dev nD) (b : Ref sig .tc) (h : b ≠ main_v2) : V3 m d (dv b) = V2 m d (dv b) :=
  Function.update_of_ne (StableHlo.devRef_ne_of_ne h) _ _
theorem V3_r (d : Dev nD) : V3 m d (dv main_v2) = atR m d := Function.update_self _ _ _
theorem V3_x (d : Dev nD) : V3 m d (dv main_v0) = shapeCast S65536x1024 (m (lX d)) shapeCasts_S1024x64x1024_S65536x1024 := by
  rw [V3_of_ne m d _ (by decide)]
  unfold V2
  rw [StableHlo.reshape_result_ne (h := show main_v0 ≠ main_v1 by decide), StableHlo.reshape_result]
  rfl

theorem V4_of_ne (d : Dev nD) (b : Ref sig .tc) (h : b ≠ main_v3) : V4 m d (dv b) = V3 m d (dv b) :=
  Function.update_of_ne (StableHlo.devRef_ne_of_ne h) _ _
theorem V4_s (d : Dev nD) : V4 m d (dv main_v3) = sums (V3 m d (dv main_v0)) (V3 m d (dv main_v2)) := Function.update_self _ _ _

/-- At the end an argument is what it was, and the result is `out`. -/
theorem V5_arg (d : Dev nD) (b : Ref sig .tc) (h : b ≠ main_v0 ∧ b ≠ main_v1 ∧ b ≠ main_v2 ∧ b ≠ main_v3 ∧ b ≠ main_v4) :
    V5 m d (dv b) = m (d, dv b) := by
  obtain ⟨h0, h1, h2, h3, h4⟩ := h
  unfold V5
  rw [StableHlo.reshape_result_ne (h := h4), V4_of_ne m d b h3, V3_of_ne m d b h2, V2_of_ne m d b h0 h1]

theorem V5_out (d : Dev nD) : V5 m d (dv main_v4) = out m d := by
  unfold V5
  rw [StableHlo.reshape_result, V4_s, V3_x, V3_r]
  rfl

/-! ## The calls -/

theorem st_eq (d : Dev nD) : (bigSep Finset.univ fun c : Fin ((K (F := F)).nCore 0) => (P m).st 0 d c)
    = iprop((lN d ↦{fullShare} atN m d) ∗ (lE d ↦{fullShare} m (lE d)) ∗ ∃ f, lR d ↦{fullShare} f) :=
  bigSep_univ_of_subsingleton (0 : Fin 1)
theorem dn_eq (d : Dev nD) : (bigSep Finset.univ fun c : Fin ((K (F := F)).nCore 0) => (P m).dn 0 d c)
    = iprop((lN d ↦{fullShare} atN m d) ∗ (lE d ↦{fullShare} m (lE d)) ∗ lR d ↦{fullShare} atR m d) :=
  bigSep_univ_of_subsingleton (0 : Fin 1)

/-- The pipeline's share of the launch's resources on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The pipelined call as @main makes it. -/
theorem call_add (Vd : (d : Dev nD) → (b : Ref sig .tc) → Buf (Elt F) ((d.tc : Thread nD τ).loc b)) (w : ℕ) (d : Dev nD)
    (Q : PUnit → sProp 𝕄) :
    iprop((iprop(boundary (T d) ∗ after Vd d ∗ idle w d) -∗ Q ⟨⟩)
        ∗ boundary (T d) ∗ (unscopedBufs d (Vd d) ∗ idle w d) ∗ levAts (K (F := F)).L (K (F := F)).lev ∗ G d)
      ⊢ wp frame (wpE ((K (F := F)).defs (D (F := F))) 𝒱 (T d) none) Set.univ
          (Prog.lift (.customCall (SparseCore.inner (Pipeline.entry 0)) ())) Q := by
  refine BIBase.Entails.trans ?_ ((K (F := F)).wp_liftProg (D (F := F)) 𝒱 (T d) Set.univ none
    (.op (.customCall (Pipeline.entry (0 : Fin 1)) ()) .ret) Q)
  have hpre : (reg Vd w).pre d = iprop(unscopedBufs d (Vd d) ∗ idle w d) := rfl
  have hpost : (reg Vd w).post d = iprop(after Vd d ∗ idle w d) := rfl
  refine BIBase.Entails.trans ?_ (Pipeline.RegionSeg.wp (pcfgs (F := F)) adm (dats Vd w) (none : HIx 1) cellOf_inj EP defs₀ 𝒱₀
    (K (F := F)).L (K (F := F)).lev (reg Vd w) d none (fun _ h => nomatch h) _ Q)
  rw [hpre, hpost]
  iintro ⟨Hk, Hb, Hpre, Hlv, Hg, Ht⟩
  isplitl [Hk]
  · iintro H
    rw [wp_ret]
    imodintro
    iapply Hk
    iexact H
  isplitl [Hb]; · iexact Hb
  isplitl [Hpre]; · iexact Hpre
  isplitl [Hlv]; · iexact Hlv
  isplitl [Hg]; · iexact Hg
  iexact Ht

/-! ## @main -/

theorem hX : (opX (F := F)).bufs ⊆ S8 := show ({dv main_arg0, dv main_v0} : Finset (DevRef τ sig)) ⊆ S8 by decide
theorem hN : (opN (F := F)).bufs ⊆ S8 := show ({dv main_arg1, dv main_v1} : Finset (DevRef τ sig)) ⊆ S8 by decide
theorem hO : (opO (F := F)).bufs ⊆ S8 := show ({dv main_v3, dv main_v4} : Finset (DevRef τ sig)) ⊆ S8 by decide

theorem unscoped_held (d : Dev nD) : (unscopedBufs d (fun b => m ((SparseCore.T d).loc b)) : sProp 𝕄) = held (T d) S8 (V0 m d) := by
  rw [unscoped_each, held_each]; rfl

/-- The arrays around the SparseCore call: the row's buffer at `r`, what the call moves at `P`'s contents, the rest kept. -/
abbrev around (d : Dev nD) (r : Buf (Elt F) (lR d)) : sProp 𝕄 :=
  eight d (V3 m d (dv main_arg0)) (V3 m d (dv main_arg1)) (m (lE d)) (V3 m d (dv main_v0)) (atN m d) r (V3 m d (dv main_v3))
    (V3 m d (dv main_v4))

theorem V3_e (d : Dev nD) : V3 m d (dv main_arg2) = m (lE d) := by
  rw [V3_of_ne m d _ (by decide), V2_of_ne m d _ (by decide) (by decide)]
theorem V3_n (d : Dev nD) : V3 m d (dv main_v1) = atN m d := by rw [V3_of_ne m d _ (by decide), V2_n]

theorem before_call (d : Dev nD) : (held (SparseCore.T d) S8 (V2 m d) : sProp 𝕄) = around m d (V2 m d (dv main_v2)) := by
  rw [held_each]
  exact eight_congr d (V3_of_ne m d _ (by decide)).symm (V3_of_ne m d _ (by decide)).symm
    (V2_of_ne m d main_arg2 (by decide) (by decide)) (V3_of_ne m d _ (by decide)).symm (V2_n m d) rfl
    (V3_of_ne m d _ (by decide)).symm (V3_of_ne m d _ (by decide)).symm

theorem after_call (d : Dev nD) : (unscopedBufs d (fun b => V3 m d (dv b)) : sProp 𝕄) = around m d (atR m d) := by
  rw [unscoped_each]
  exact eight_congr d rfl rfl (V3_e m d) rfl (V3_n m d) (V3_r m d) rfl rfl

/-- What the pipelined call leaves is the arrays at `V4`. -/
theorem after_add (d : Dev nD) : (after (fun d b => V3 m d (dv b)) d : sProp 𝕄) ⊢ held (SparseCore.T d) S8 (V4 m d) := by
  rw [held_each]
  simp only [each, V4_s, V4_of_ne m d main_arg0 (by decide), V4_of_ne m d main_arg1 (by decide), V4_of_ne m d main_arg2 (by decide),
    V4_of_ne m d main_v0 (by decide), V4_of_ne m d main_v1 (by decide), V4_of_ne m d main_v2 (by decide), V4_of_ne m d main_v4 (by decide)]
  iintro ⟨HXm, HR, HS, HX, HI, HE, HN, HO⟩
  isplitl [HX]; · iexact HX
  isplitl [HI]; · iexact HI
  isplitl [HE]; · iexact HE
  isplitl [HXm]; · iexact HXm
  isplitl [HN]; · iexact HN
  isplitl [HR]; · iexact HR
  isplitl [HS]; · iexact HS
  iexact HO

/-- The arrays at the end: the arguments at their launch contents and the result at `out`. -/
theorem held_end (d : Dev nD) : (held (SparseCore.T d) S8 (V5 m d) : sProp 𝕄)
    = eight d (m (lX d)) (m (lI d)) (m (lE d)) (V5 m d (dv main_v0)) (V5 m d (dv main_v1)) (V5 m d (dv main_v2))
        (V5 m d (dv main_v3)) (out m d) := by
  rw [held_each]
  exact eight_congr d (V5_arg m d _ (by decide)) (V5_arg m d _ (by decide)) (V5_arg m d _ (by decide)) rfl rfl rfl rfl (V5_out m d)

/-- What @main leaves: the three arguments at their launch contents, the result at `out`. -/
abbrev FIN (d : Dev nD) : sProp 𝕄 :=
  iprop((lX d ↦{fullShare} m (lX d)) ∗ (lI d ↦{fullShare} m (lI d)) ∗ (lE d ↦{fullShare} m (lE d)) ∗ lO d ↦{fullShare} out m d)

/-- The TensorCore's state after the last SparseCore call: it owes nothing, its waits below some level, and records of
    the calls. -/
theorem tcSt_idle (d : Dev nD) : ∃ (w : ℕ) (R : sProp 𝕄), (K (F := F)).tcSt EH d 1 = iprop(idle (F := F) w d ∗ R) := by
  unfold SparseCore.Cfg.tcSt
  rw [(K (F := F)).Otc_end d le_rfl]
  exact ⟨_, _, rfl⟩

/-- @main on device `d`'s TensorCore, from the launch's resources to `FIN`. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  obtain ⟨w, R, hR⟩ := tcSt_idle (F := F) d
  iintro ⟨#Hctx, Hst, ⟨Hb, Hheld, Hts, -⟩, Hg⟩
  -- the two reshapes
  iapply (wp_hlo_within 𝒱 (SparseCore.T d) none Set.univ (op := opX) (S := S8) hX (V := V0 m d)) $$ [Hb Hheld]
  · isplitl [Hb] <;> iassumption
  iintro ⟨Hb, Hheld⟩
  rw [wp_ret]; imodintro
  iapply (wp_hlo_within 𝒱 (SparseCore.T d) none Set.univ (op := opN) (S := S8) hN (V := (opX (F := F)).result (V0 m d))) $$ [Hb Hheld]
  · isplitl [Hb] <;> iassumption
  iintro ⟨Hb, Hheld⟩
  rw [wp_ret, show (opN (F := F)).result ((opX (F := F)).result (V0 m d)) = V2 m d from rfl]; imodintro
  ihave Hh := (Entails.of_eq (before_call (F := F) m d)) $$ Hheld
  icases Hh with ⟨HX, HI, HE, HXm, HN, HR, HS, HO⟩
  -- the SparseCore call: the word, the table and the row's buffer out, the row back
  iapply ((K (F := F)).wp_run (D (F := F)) 𝒱 (EH := EH) (P := P m) κ d 0) $$ [Hst HX HI HE HXm HN HR HS HO Hb Hts Hg]
  isplitr; · iexact Hctx
  isplitl [Hst]; · iexact Hst
  isplitl [HN HE HR]
  · rw [st_eq]
    isplitl [HN]; · iexact HN
    isplitl [HE]; · iexact HE
    iexists _; iexact HR
  iintro ⟨Hst, Hdn⟩
  ihave Hdn' := (Entails.of_eq (dn_eq m d)) $$ Hdn
  icases Hdn' with ⟨HN, HE, HR⟩
  ihave Hst' := (Entails.of_eq (show (K (F := F)).tcSt EH d ((0 : Fin 1).val + 1) = iprop(idle (F := F) w d ∗ R) from hR)) $$ Hst
  icases Hst' with ⟨Hid, HRest⟩
  -- the pipelined call
  iapply (call_add (fun d b => V3 m d (dv b)) w d _) $$ [HX HI HE HXm HN HR HS HO Hid HRest Hb Hts Hg]
  isplitr [Hb Hid Hg HX HI HE HXm HN HR HS HO]
  · iintro ⟨Hb, Haf, Hid⟩
    ihave Hheld := (after_add (F := F) m d) $$ Haf
    -- the reshape of the sums
    iapply (wp_hlo_within 𝒱 (SparseCore.T d) none Set.univ (op := opO) (S := S8) hO (V := V4 m d)) $$ [Hb Hheld]
    · isplitl [Hb] <;> iassumption
    iintro ⟨Hb, Hheld⟩
    rw [wp_ret, show (opO (F := F)).result (V4 m d) = V5 m d from rfl]; imodintro
    ihave Hh := (Entails.of_eq (held_end (F := F) m d)) $$ Hheld
    icases Hh with ⟨HX, HI, HE, -, -, -, -, HO⟩
    imodintro
    isplitl [Hid HRest]
    · rw [hR]
      isplitl [Hid] <;> iassumption
    isplitl [HX HI HE HO]
    · isplitl [HX]; · iexact HX
      isplitl [HI]; · iexact HI
      isplitl [HE]; · iexact HE
      iexact HO
    isplitl [Hb] <;> iassumption
  isplitl [Hb]; · iexact Hb
  isplitl [Hid HX HI HE HXm HN HR HS HO]
  · isplitr [Hid]
    · rw [after_call]
      isplitl [HX]; · iexact HX
      isplitl [HI]; · iexact HI
      isplitl [HE]; · iexact HE
      isplitl [HXm]; · iexact HXm
      isplitl [HN]; · iexact HN
      isplitl [HR]; · iexact HR
      isplitl [HS]; · iexact HS
      iexact HO
    · iexact Hid
  isplitr [Hg]
  · iapply ((K (F := F)).ctx_levAts κ)
    iexact Hctx
  · iexact Hg

end Cert.Proof.RowAdd

end
-- ==== Proof.Run.lean ====
/-
  The kernel's run, over any float values: the launch's resources, and from any memory whose words name rows of the table,
  @main ends with the arguments untouched, the result at `out`, and every counter at zero.
-/
module

public import proofs.«01_k».proof.Proof.Main

@[expose] public section

set_option maxRecDepth 16384

noncomputable section

namespace Cert.Proof.RowAdd

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => M' F

variable (m : (ℓ : Loc nD τ sig) → Buf (Elt F) ℓ) (ρ : Dev nD → PrngReg)

/-- The launch element: the SparseCore handshakes' rounds, the pipeline's rounds, no counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

/-- From the launch element: the handshakes' rounds, the pipeline's share on every device, and nothing for the bodies. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HR' := (own_pair_emb embR _ (1 : Counters)) $$ HR
  icases HR' with ⟨HP, -⟩
  rw [show (Emb.inl : Emb (UR sig nD τ) UR').trans embR = (EP : Emb (UR sig nD τ) 𝕄) from rfl]
  imod (Pipeline.fund_ghost (Pipeline.pin (pcfgs (F := F)) adm) EP cellOf_inj) $$ HP with ⟨Hg, Ht⟩
  imodintro
  isplitl [HH]; · iexact HH
  isplitl [Hg Ht]
  · rw [bigSep_sep', bigSep_congr fun (d : Dev nD) _ => (bigSep_univ_of_subsingleton (0 : Fin 1) (Φ := fun p => Pipeline.cellsGhost (Pipeline.pin (pcfgs (F := F)) adm) EP p d)).symm,
      bigSep_congr fun (d : Dev nD) _ => (bigSep_univ_of_subsingleton (0 : Fin 1) (Φ := fun p => Pipeline.toksInit (Pipeline.pin (pcfgs (F := F)) adm) EP p d)).symm]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- What the final memory shows on device `d`: the arguments as at launch, the result at `out`. -/
def fq (d : Dev nD) (s' : Phys nD τ sig (Elt F)) : Prop :=
  s'.mem.mem (lX d) = m (lX d) ∧ s'.mem.mem (lI d) = m (lI d) ∧ s'.mem.mem (lE d) = m (lE d) ∧ s'.mem.mem (lO d) = out m d

theorem hfin (d : Dev nD) (s' : Phys nD τ sig (Elt F)) : iprop(FIN m d ∗ SI s') ⊢ (⌜fq m d s'⌝ : sProp 𝕄) := by
  iintro ⟨⟨HX, HI, HE, HO⟩, HSI⟩
  icombine HSI HX gives %hX
  icombine HSI HI gives %hI
  icombine HSI HE gives %hE
  icombine HSI HO gives %hO
  ipureintro
  exact ⟨Buf.eq_of_forall_mem_univ hX, Buf.eq_of_forall_mem_univ hI, Buf.eq_of_forall_mem_univ hE, Buf.eq_of_forall_mem_univ hO⟩

/-- The run's result. -/
def QC : PUnit × MemSt nD τ sig (Elt F) → Prop := fun r =>
  (∀ d : Dev nD, r.2.mem (lX d) = m (lX d) ∧ r.2.mem (lI d) = m (lI d) ∧ r.2.mem (lE d) = m (lE d) ∧ r.2.mem (lO d) = out m d)
    ∧ r.2.sem = fun _ => 0

theorem run_main [∀ e, Nonempty (Elt F e)] (hn : ∀ d, (word m d).toNat < 3) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts (Sum.inl none)
    (fun q _ => match q with | 0 => scalarObl m hn)
    (fun q hq => match q with | 0 => nomatch hq)
    (fun q hq => match q with | 0 => nomatch hq)
    m ρ main (fun d => G (F := F) d) (FIN m) (u₀ (F := F)) (sep_elim_left.trans (hu₀ m)) (hmain m ρ) (fq m) (hfin m) (QC m) (fun _ h hz => ⟨h, hz⟩)

end Cert.Proof.RowAdd

end
-- ==== Proof.Same.lean ====
/-
  The kernel and its idealized program are one text, and so, at any float values, one body table. The two tables are written
  by cases, so they are compared case by case; everything else of the two programs is the same by computation.
-/
module

public import proofs.«01_k».proof.Proof.Gen.Kernel
public import proofs.«01_k».proof.Proof.Gen.KernelIdeal

@[expose] public section

noncomputable section

namespace Cert.Proof.RowAdd

open Idealize.ShloMosaic

variable {F : FTy → Type} [FloatOps F]

/-- The kernels' body tables agree: on each processor, each label's body is the same program. -/
theorem kernels_same : Cert.Kernel.defs₀ (F := F) = Cert.KernelIdeal.defs₀ (F := F) := by
  funext p ℓ a
  match p, ℓ, a with
  | .scScalar _, 0, _ => rfl
  | .scScalar _, 1, _ => rfl
  | .scVector _ _, 0, _ => rfl
  | .scVector _ _, 1, _ => rfl
  | .tc, 0, _ => rfl
  | .tc, 1, (_, _) => rfl

/-- So the programs' whole body tables agree. -/
theorem defs_same : Cert.Kernel.defs (F := F) = Cert.KernelIdeal.defs (F := F) := by
  unfold Cert.Kernel.defs Cert.KernelIdeal.defs
  rw [kernels_same]
  rfl

end Cert.Proof.RowAdd

end
-- ==== Proof.Value.lean ====
/-
  The value both programs compute, and that the kernel's result is it: `x` with the row the index names added to every row.
-/
module

public import proofs.«01_k».proof.Proof.Region
public import Idealize.ShloMosaic.Lib.ValueIdxCore

@[expose] public section

noncomputable section

namespace Cert.Proof.RowAdd

open Cert.KernelIdeal Cert.KernelIdeal.Gen
open Idealize.ShloMosaic Idealize.ShloMosaic.ValueIdx

variable {F : FTy → Type} [FloatOps F]

/-- `x` with row `n` of the table `e` added along the last axis: element `(a, b, c)` is `x[a, b, c] + e[n, c]`. -/
def total (x : S1024x64x1024.Idx → Elt F .f32) (e : S3x1024.Idx → Elt F .f32) (n : BitVec 32) : S1024x64x1024.Idx → Elt F .f32 :=
  fun j => FloatOps.addf (φ := .f32) (x j) (e (ValueIdx.ix2 ⟨n.toNat % 3, Nat.mod_lt _ (by decide)⟩ ⟨(j 2).val, (j 2).isLt⟩))

/-- Row `64 a + b`, column `c` of the matrix is where element `(a, b, c)` of the three-axis array lies. -/
def flat (j : S1024x64x1024.Idx) : S65536x1024.Idx :=
  ValueIdx.ix2 ⟨(j 0).val * 64 + (j 1).val, by
    have h0 : (j 0).val < 1024 := (j 0).isLt
    have h1 : (j 1).val < 64 := (j 1).isLt
    show _ < 65536
    omega⟩ ⟨(j 2).val, (j 2).isLt⟩

theorem flat_pos (j : S1024x64x1024.Idx) : (S65536x1024.rowMajor (flat j)).val = (S1024x64x1024.rowMajor j).val := by
  rw [Shape.rowMajor_val_two, Shape.rowMajor_val_three]
  simp only [flat]
  rfl

/-- The three-axis array viewed as a matrix, the row added to each row of the matrix, and viewed as three axes again is
    the sum along the last axis. -/
theorem reshaped_sums (x : S1024x64x1024.Idx → Elt F .f32) (e : S3x1024.Idx → Elt F .f32) (n : BitVec 32)
    (h : S1024x64x1024.ShapeCasts S65536x1024) (h' : S65536x1024.ShapeCasts S1024x64x1024) :
    shapeCast S1024x64x1024 (sums (shapeCast S65536x1024 x h) (row e n)) h' = total x e n := by
  funext j
  rw [shapeCast_apply _ h' j (flat j) (flat_pos j)]
  unfold sums total
  rw [shapeCast_apply _ h (flat j) j (flat_pos j).symm]
  refine congrArg (FloatOps.addf (φ := .f32) (x j)) (congrArg e (funext fun a => ?_))
  match a with
  | ⟨0, _⟩ => rfl
  | ⟨1, _⟩ => rfl

end Cert.Proof.RowAdd

end
-- ==== Proof.Ref.lean ====
/-
  The reference's value: under the precondition its take is the row the index names, so that its result is `total`.
-/
module

public import proofs.«01_k».proof.Proof.Value
public import proofs.«01_k».proof.Proof.Gen.ReferenceIdeal
public import proofs.«01_k».proof.Proof.Gen.Pre_index_names_a_row
public import Idealize.ShloMosaic.Lib.ReduceAll

@[expose] public section

noncomputable section

namespace Cert.Proof.RowAdd

open Cert.ReferenceIdeal Cert.ReferenceIdeal.Gen
open Idealize.ShloMosaic
open Idealize.ShloMosaic.ValueIdx (eq_ix0 select_apply select_one)

variable {F : FTy → Type} [FloatOps F]

/-! ## The precondition -/

/-- The precondition says that the index, read signed, is in `0 … 2`. -/
theorem word_of_pre (x : S1024x64x1024.Idx → Elt F .f32) (i : S_.Idx → BitVec 32) (e : S3x1024.Idx → Elt F .f32)
    (h : Cert.Pre_index_names_a_row.fn (F := F) x i e = fun _ => 1#1) : ∃ n : BitVec 32, i = (fun _ => n) ∧ (n = 0#32 ∨ n = 1#32 ∨ n = 2#32) := by
  refine ⟨i ValueIdx.ix0, funext fun j => congrArg i (eq_ix0 j), ?_⟩
  have h0 : IntOp.andi (IntOp.cmpi .sge (i ValueIdx.ix0) 0#32) (IntOp.cmpi .slt (i ValueIdx.ix0) 3#32) = 1#1 := congrFun h ValueIdx.ix0
  generalize i ValueIdx.ix0 = n at h0
  obtain ⟨h1, h2⟩ := IntOp.andi_eq_one.mp h0
  have l1 := IntOp.cmpi_sge.mp h1
  have l2 := IntOp.cmpi_slt.mp h2
  have l1 : 0 ≤ n.toInt := l1
  have l2 : n.toInt < 3 := l2
  have e : n = BitVec.ofInt 32 n.toInt := (BitVec.ofInt_toInt).symm
  generalize n.toInt = k at *
  obtain rfl | rfl | rfl : k = 0 ∨ k = 1 ∨ k = 2 := by omega
  · exact Or.inl e
  · exact Or.inr (Or.inl e)
  · exact Or.inr (Or.inr e)

/-! ## The reference's operations -/

/-- The index as the reference looks it up: a negative one counted from the end, as a one-element vector. -/
def wrapped (i : S_.Idx → BitVec 32) : S1.Idx → BitVec 32 :=
  broadcastInDim S1 ![] bcast_S_S1 (select (cmpi .slt i (constantI S_ 32 0#32)) (addi i (constantI S_ 32 3#32)) i)

/-- Whether it names a row. -/
def inside (n : S1.Idx → BitVec 32) : S_.Idx → BitVec 1 :=
  Host.reduce IntOp.andi (andi (cmpi .sge n (broadcastInDim S1 ![] bcast_S_S1 (constantI S_ 32 0#32))) (cmpi .sle n (constantI S1 32 2#32)))
    (constantI S_ 1 1#1) reducesTo_S1_S_d0 h_S_

/-- The row taken, a NaN in each place if the index names none. -/
def taken (i : S_.Idx → BitVec 32) (e : S3x1024.Idx → Elt F .f32) : S1024.Idx → Elt F .f32 :=
  select (broadcastInDim S1024 ![] bcast_S_S1024 (inside (wrapped i)))
    (Host.gather gather_S3x1024_S1_S1024_0_0_n_n_0_0_11024 e (wrapped i))
    (broadcastInDim S1024 ![] bcast_S_S1024 (constant S_ .f32 0x7FC00000#32))

/-- The reference's result. -/
def refOut (x : S1024x64x1024.Idx → Elt F .f32) (i : S_.Idx → BitVec 32) (e : S3x1024.Idx → Elt F .f32) : S1024x64x1024.Idx → Elt F .f32 :=
  addf (F := F) (φ := .f32) x (broadcastInDim S1024x64x1024 ![0, 1, 2] bcast_S1x1x1024_S1024x64x1024_0_1_2
    (broadcastInDim S1x1x1024 ![2] bcast_S1024_S1x1x1024_2 (taken i e)))

/-! ## At an index that names a row -/

/-- Such an index is looked up as it is … -/
theorem wrapped_row (n : BitVec 32) (hn : n = 0#32 ∨ n = 1#32 ∨ n = 2#32) : wrapped (fun _ => n) = fun _ => n := by
  rcases hn with rfl | rfl | rfl <;> rfl

/-- … and is inside. -/
theorem inside_row (n : BitVec 32) (hn : n = 0#32 ∨ n = 1#32 ∨ n = 2#32) : inside (fun _ => n) = fun _ => 1#1 := by
  funext j
  refine Host.reduce_andi_one _ _ _ _ j rfl fun i => ?_
  show IntOp.andi (IntOp.cmpi .sge n 0#32) (IntOp.cmpi .sle n 2#32) = 1#1
  rcases hn with rfl | rfl | rfl <;> decide

/-- The gather reads the row the index names. -/
theorem gather_row (e : S3x1024.Idx → Elt F .f32) (n : BitVec 32) (hn : n = 0#32 ∨ n = 1#32 ∨ n = 2#32) (j : S1024.Idx) :
    Host.gather gather_S3x1024_S1_S1024_0_0_n_n_0_0_11024 e (fun _ => n) j
      = e (ValueIdx.ix2 ⟨n.toNat % 3, Nat.mod_lt _ (by decide)⟩ ⟨(j 0).val, (j 0).isLt⟩) := by
  refine congrArg e (funext fun a => Fin.ext ?_)
  show gather_S3x1024_S1_S1024_0_0_n_n_0_0_11024.start j (fun _ => n) a + gather_S3x1024_S1_S1024_0_0_n_n_0_0_11024.batchCoord j a
    + gather_S3x1024_S1_S1024_0_0_n_n_0_0_11024.offCoord j a = _
  match a with
  | ⟨0, _⟩ => rcases hn with rfl | rfl | rfl <;> rfl
  | ⟨1, _⟩ =>
    have hs : gather_S3x1024_S1_S1024_0_0_n_n_0_0_11024.start j (fun _ => n) 1 = 0 := dif_neg (by decide)
    have hb : gather_S3x1024_S1_S1024_0_0_n_n_0_0_11024.batchCoord j 1 = 0 := dif_neg (by decide)
    have ho : gather_S3x1024_S1_S1024_0_0_n_n_0_0_11024.offCoord j 1 = (j 0).val := dif_pos (by decide)
    exact (congrArg₂ (· + ·) (congrArg₂ (· + ·) hs hb) ho).trans (by simp)

theorem taken_row (e : S3x1024.Idx → Elt F .f32) (n : BitVec 32) (hn : n = 0#32 ∨ n = 1#32 ∨ n = 2#32) (j : S1024.Idx) :
    taken (fun _ => n) e j = e (ValueIdx.ix2 ⟨n.toNat % 3, Nat.mod_lt _ (by decide)⟩ ⟨(j 0).val, (j 0).isLt⟩) := by
  unfold taken
  rw [wrapped_row n hn, inside_row n hn, select_apply, gather_row e n hn]
  exact select_one _ _

/-- The reference's result is `x` with the row the index names added along the last axis. -/
theorem refOut_eq (x : S1024x64x1024.Idx → Elt F .f32) (e : S3x1024.Idx → Elt F .f32) (n : BitVec 32)
    (hn : n = 0#32 ∨ n = 1#32 ∨ n = 2#32) : refOut x (fun _ => n) e = total x e n := by
  funext j
  refine congrArg (FloatOps.addf (φ := .f32) (x j)) ?_
  refine (broadcastInDim_apply _ _ _ j (ValueIdx.ix3 ⟨0, Nat.one_pos⟩ ⟨0, Nat.one_pos⟩ ⟨(j 2).val, (j 2).isLt⟩) fun a => ?_).trans ?_
  · match a with | ⟨0, _⟩ => rfl | ⟨1, _⟩ => rfl | ⟨2, _⟩ => rfl
  refine (broadcastInDim_apply _ _ _ _ (ValueIdx.ix1 ⟨(j 2).val, (j 2).isLt⟩) fun a => ?_).trans ?_
  · match a with | ⟨0, _⟩ => rfl
  exact taken_row e n hn _

end Cert.Proof.RowAdd

end
-- ==== Proof.lean ====
/-
  The certificate's claims, from the kernel's run (Proof/Run.lean), the value both programs compute (Proof/Value.lean) and
  the reference's value (Proof/Ref.lean). The run and the values are proved over any float values, so the two frames of the
  kernel and the two value claims are the same theorems read at the machine's floats and at the ideal ones.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_index_names_a_row
public import proofs.«01_k».proof.Proof.Run
public import proofs.«01_k».proof.Proof.Same
public import proofs.«01_k».proof.Proof.Ref
public import Idealize.ShloMosaic.Adequacy
public import Idealize.ShloMosaic.Init

@[expose] public section

noncomputable section

namespace Cert.Proof

open Idealize.ShloMosaic Idealize.SL.Sem

/-! ## The kernel -/

section Kernel

open RowAdd Cert.KernelIdeal

variable {F : FTy → Type} [FloatOps F]

/-- The precondition of a launch memory bounds the index it holds. -/
theorem word_lt {m : (ℓ : Loc nD τ sig) → Buf (Elt F) ℓ}
    (h : ∀ d, Cert.Pre_index_names_a_row.fn (F := F) (m (lX d)) (m (lI d)) (m (lE d)) = fun _ => 1#1) (d : Dev nD) : (word m d).toNat < 3 := by
  obtain ⟨n, hi, hn⟩ := word_of_pre _ _ _ (h d)
  have hw : word m d = n := congrFun hi _
  rw [hw]
  rcases hn with rfl | rfl | rfl <;> decide

/-- The kernel's run over any float values: the arguments unchanged, the result the sum with the row, the counters zero. -/
theorem run_kernel [∀ e, Nonempty (Elt F e)] (m : (ℓ : Loc nD τ sig) → Buf (Elt F) ℓ) (ρ : Dev nD → PrngReg)
    (h : ∀ d, Cert.Pre_index_names_a_row.fn (F := F) (m (lX d)) (m (lI d)) (m (lE d)) = fun _ => 1#1) :
    θ_run (Cert.KernelIdeal.defs (F := F)) (Cert.KernelIdeal.threads (F := F)) ⟨m, fun _ => 0, ρ⟩ fun r =>
      (∀ d : Dev nD, r.2.mem (lX d) = m (lX d) ∧ r.2.mem (lI d) = m (lI d) ∧ r.2.mem (lE d) = m (lE d)
        ∧ r.2.mem (lO d) = total (m (lX d)) (m (lE d)) (word m d)) ∧ r.2.sem = fun _ => 0 :=
  (θ_run Cert.KernelIdeal.defs _ _).mono
    (fun _ q => ⟨fun d => ⟨(q.1 d).1, (q.1 d).2.1, (q.1 d).2.2.1, (q.1 d).2.2.2.trans (reshaped_sums _ _ _ _ _)⟩, q.2⟩)
    (run_main m ρ (word_lt h))

end Kernel

/-- The run at the machine's floats, read as the kernel's own: the idealized program is the kernel's text. -/
theorem run_bits (m : (ℓ : Loc Cert.Kernel.nD Cert.Kernel.τ Cert.Kernel.sig) → Buf (Elt Bits) ℓ) (ρ : Dev Cert.Kernel.nD → PrngReg)
    (h : Cert.Pre_Kernel m) :
    θ_run (Cert.Kernel.defs (F := Bits)) (Cert.Kernel.threads (F := Bits)) ⟨m, fun _ => 0, ρ⟩ fun r =>
      (∀ d : Dev Cert.Kernel.nD,
        r.2.mem ((d.tc : Thread Cert.Kernel.nD Cert.Kernel.τ).loc Cert.Kernel.main_arg0) = m ((d.tc : Thread Cert.Kernel.nD Cert.Kernel.τ).loc Cert.Kernel.main_arg0)
        ∧ r.2.mem ((d.tc : Thread Cert.Kernel.nD Cert.Kernel.τ).loc Cert.Kernel.main_arg1) = m ((d.tc : Thread Cert.Kernel.nD Cert.Kernel.τ).loc Cert.Kernel.main_arg1)
        ∧ r.2.mem ((d.tc : Thread Cert.Kernel.nD Cert.Kernel.τ).loc Cert.Kernel.main_arg2) = m ((d.tc : Thread Cert.Kernel.nD Cert.Kernel.τ).loc Cert.Kernel.main_arg2)
        ∧ r.2.mem ((d.tc : Thread Cert.Kernel.nD Cert.Kernel.τ).loc Cert.Kernel.main_v4)
          = RowAdd.total (F := Bits) (m (RowAdd.lX d)) (m (RowAdd.lE d)) (RowAdd.word (F := Bits) m d)) ∧ r.2.sem = fun _ => 0 := by
  rw [RowAdd.defs_same]
  exact run_kernel (F := Bits) m ρ h

/-! ## The frames -/

/-- `Cert.quiescent_Kernel`: the run at the machine's floats. -/
theorem frame_kernel : Cert.quiescent_Kernel := fun m ρ h =>
  (θ_run Cert.Kernel.defs _ _).mono (fun _ q => ⟨fun c => ⟨(q.1 c).1, (q.1 c).2.1, (q.1 c).2.2.1⟩, q.2⟩) (run_bits m ρ h)

/-- `Cert.quiescent_KernelIdeal`: the same run at the ideal values. -/
theorem frame_kernel_ideal : Cert.quiescent_KernelIdeal := fun m ρ h =>
  (θ_run Cert.KernelIdeal.defs _ _).mono (fun _ q => ⟨fun c => ⟨(q.1 c).1, (q.1 c).2.1, (q.1 c).2.2.1⟩, q.2⟩) (run_kernel (F := Ideal) m ρ h)

/-- `Cert.quiescent_ReferenceIdeal`: the reference's run; it declares no semaphore. -/
theorem frame_reference_ideal : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

/-- `Cert.quiescent_Reference`: the same at the machine's floats. -/
theorem frame_reference : Cert.quiescent_Reference := fun m ρ _ =>
  (θ_run Cert.Reference.defs _ _).mono (fun r q => ⟨fun c => (q c).2, sem_eq_zero_of_no_sems (by decide) r.2⟩)
    (Cert.Reference.Value.run (F := Bits) m ρ)

/-! ## The values -/

/-- What the reference computes from arguments that meet the precondition. -/
theorem refOut_of_pre {F : FTy → Type} [FloatOps F] (x : Cert.KernelIdeal.S1024x64x1024.Idx → Elt F .f32)
    (i : Cert.KernelIdeal.S_.Idx → BitVec 32) (e : Cert.KernelIdeal.S3x1024.Idx → Elt F .f32)
    (h : Cert.Pre_index_names_a_row.fn (F := F) x i e = fun _ => 1#1) :
    RowAdd.refOut x i e = RowAdd.total x e (i fun a => a.elim0) := by
  obtain ⟨n, rfl, hn⟩ := RowAdd.word_of_pre x i e h
  exact RowAdd.refOut_eq x e n hn

/-- `Cert.algebraic_KernelIdeal_ReferenceIdeal`: at the ideal values both results are `total` of the arguments. -/
theorem algebraic : Cert.algebraic_KernelIdeal_ReferenceIdeal := by
  intro m ρ m' ρ' h hm
  refine ⟨fun c => RowAdd.total (m (RowAdd.lX c)) (m (RowAdd.lE c)) (RowAdd.word m c),
    (θ_run Cert.KernelIdeal.defs _ _).mono (fun _ q c => ⟨(q.1 c).2.2.2, (q.1 c).1, (q.1 c).2.1, (q.1 c).2.2.1⟩) (run_kernel (F := Ideal) m ρ h), ?_⟩
  refine (θ_run Cert.ReferenceIdeal.defs _ _).mono (fun r q c => ⟨(q c).1.trans ?_, (q c).2⟩) (Cert.ReferenceIdeal.Value.run (F := Ideal) m' ρ')
  obtain ⟨h0, h1, h2⟩ := hm c
  rw [h0, h1, h2]
  exact refOut_of_pre _ _ _ (h c)

/-- `Cert.bitexact_Kernel_Reference`: so they are at the machine's floats, bit for bit. -/
theorem bitexact : Cert.bitexact_Kernel_Reference := by
  intro m ρ m' ρ' h hm
  refine ⟨fun c => RowAdd.total (F := Bits) (m (RowAdd.lX c)) (m (RowAdd.lE c)) (RowAdd.word (F := Bits) m c),
    (θ_run Cert.Kernel.defs _ _).mono (fun _ q c => ⟨(q.1 c).2.2.2, (q.1 c).1, (q.1 c).2.1, (q.1 c).2.2.1⟩) (run_bits m ρ h), ?_⟩
  refine (θ_run Cert.Reference.defs _ _).mono (fun r q c => ⟨(q c).1.trans ?_, (q c).2⟩) (Cert.Reference.Value.run (F := Bits) m' ρ')
  obtain ⟨h0, h1, h2⟩ := hm c
  rw [h0, h1, h2]
  exact refOut_of_pre _ _ _ (h c)

/-- Everything the certificate claims. -/
theorem claim : Cert.Claim :=
  ⟨Cert.Kernel.Gen.facts, Cert.KernelIdeal.Gen.facts, Cert.ReferenceIdeal.Gen.facts, Cert.Reference.Gen.facts, Cert.Pre_index_names_a_row.Gen.facts,
    frame_kernel, frame_kernel_ideal, frame_reference_ideal, fun m ρ _ => frame_reference_ideal m ρ trivial, frame_reference, trivial, algebraic, bitexact⟩

end Cert.Proof

end
